-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)

variable [Facts]

def fn {F : FTy → Type} [FloatOps F] (main_arg0 : FVec F S16384x4096 .f32) : IVec S16384x4096 1 :=
  let main_cst : FVec F S_ .f32 := constant S_ .f32 0x00800000#32
  let main_v0 : FVec F S16384x4096 .f32 := broadcastInDim S16384x4096 ![] bcast_S_S16384x4096 main_cst
  let main_v1 : IVec S16384x4096 1 := cmpf .oge main_arg0 main_v0
  let main_cst_0 : FVec F S_ .f32 := constant S_ .f32 0x7F800000#32
  let main_v2 : FVec F S16384x4096 .f32 := broadcastInDim S16384x4096 ![] bcast_S_S16384x4096 main_cst_0
  let main_v3 : IVec S16384x4096 1 := cmpf .olt main_arg0 main_v2
  let main_v4 : IVec S16384x4096 1 := andi main_v1 main_v3
  main_v4
-- ==== Kernel.lean ====
abbrev S16384x4096 : Shape := ⟨2, ![16384, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x512 : Shape := ⟨2, ![2048, 512]⟩
abbrev S2048x1 : Shape := ⟨2, ![2048, 1]⟩
abbrev S2048x256 : Shape := ⟨2, ![2048, 256]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S16384x4096, .f32⟩
  | .local _ .vmem, ⟨0, _⟩ => ⟨S2048x512, .f32⟩
  | .local _ .vmem, ⟨1, _⟩ => ⟨S2048x512, .f32⟩
  | .local _ .vmem, ⟨2, _⟩ => ⟨S256x256, .bf16⟩
  | .local _ .vmem, ⟨3, _⟩ => ⟨S2048x512, .f32⟩
  | .local _ .vmem, ⟨4, _⟩ => ⟨S2048x512, .f32⟩
  | .local _ .vmem, ⟨5, _⟩ => ⟨S2048x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16384x4096 : Shape := ⟨2, ![16384, 4096]⟩
abbrev S_ : Shape := ⟨0, ![]⟩
abbrev S16384 : Shape := ⟨1, ![16384]⟩
abbrev S4096x16384 : Shape := ⟨2, ![4096, 16384]⟩
abbrev S1x16384 : Shape := ⟨2, ![1, 16384]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S_, .f32⟩
  | .hbm, ⟨2, _⟩ => ⟨S16384, .f32⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S_, .i32⟩
  | .hbm, ⟨7, _⟩ => ⟨S4096x16384, .f32⟩
  | .hbm, ⟨8, _⟩ => ⟨S_, .i32⟩
  | .hbm, ⟨9, _⟩ => ⟨S16384, .f32⟩
  | .hbm, ⟨10, _⟩ => ⟨S4096x16384, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x16384, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S1x16384, .f32⟩
  | .hbm, ⟨19, _⟩ => ⟨S_, .i32⟩
  | .hbm, ⟨20, _⟩ => ⟨S4096x16384, .f32⟩
  | .hbm, ⟨21, _⟩ => ⟨S_, .i32⟩
  | .hbm, ⟨22, _⟩ => ⟨S_, .i32⟩
  | .hbm, ⟨23, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v5 : Ref sig .tc := ⟨.hbm, 15, rfl⟩
abbrev main_while0b_v6 : Ref sig .tc := ⟨.hbm, 16, rfl⟩
abbrev main_while0b_v7 : Ref sig .tc := ⟨.hbm, 17, rfl⟩
abbrev main_while0b_call1_v0 : Ref sig .tc := ⟨.hbm, 18, rfl⟩
abbrev main_while0b_call1_c : Ref sig .tc := ⟨.hbm, 19, rfl⟩
abbrev main_while0b_v8 : Ref sig .tc := ⟨.hbm, 20, rfl⟩
abbrev main_while0b_c_4 : Ref sig .tc := ⟨.hbm, 21, rfl⟩
abbrev main_while0b_v9 : Ref sig .tc := ⟨.hbm, 22, rfl⟩
abbrev main_v4 : Ref sig .tc := ⟨.hbm, 23, rfl⟩

abbrev nD : Nat := 1
abbrev τ : Topo := Topo.v7x

variable {F : FTy → Type} [FloatOps F]

abbrev main_while0_count : Scf.Loop 32 := ⟨0#32, 4096#32, 1#32⟩
-- ==== Proof.Chunk.lean ====
/- What one chunk of 256 columns computes, at one entry. -/
module

public import proofs.«01_k».proof.Proof.Gen.KernelIdeal.Value
public import Idealize.ShloMosaic.Lib.Pointwise
public import Idealize.ShloMosaic.Lib.ValueIdx

@[expose] public section

set_option maxRecDepth 16384

noncomputable section

namespace Cert.Chunk

open Idealize.ShloMosaic Cert.KernelIdeal Cert.KernelIdeal.Gen

/-- The kernel's clamp: the smallest positive normal number of the format. -/
def tiny : ℝ := (2 : ℝ) ^ (-126 : ℤ)

theorem tiny_pos : 0 < tiny := by unfold tiny; positivity

/-- The clamp's bits read as that number. -/
theorem ofBits_tiny : Ideal.ofBits .f32 8388608#32 = (tiny : EReal) := by
  unfold tiny
  simp [Ideal.ofBits, Ideal.ieee, -EReal.coe_mul]; norm_num

/-- The named constant is the reciprocal of the natural logarithm of two. -/
theorem named_inv_ln2 : (Named.named (F := Ideal) κ "inv_ln2" 1069066811#32 : Ideal .f32) = (((Real.log 2)⁻¹ : ℝ) : EReal) := rfl

/-- The logarithm to base two, as the kernel takes it: the natural one times the reciprocal of that of two. -/
def lb (r : ℝ) : ℝ := Real.log r * (Real.log 2)⁻¹

/-- The scaled logarithm of a number the clamp leaves alone is its logarithm to base two. -/
theorem lg_coe {r : ℝ} (hr : tiny ≤ r) :
    Ideal.log (max ((r : ℝ) : EReal) (Ideal.ofBits .f32 8388608#32)) * (Named.named (F := Ideal) κ "inv_ln2" (φ := .f32) 1069066811#32 : EReal)
      = ((lb r : ℝ) : EReal) := by
  rw [ofBits_tiny, named_inv_ln2, max_eq_left (EReal.coe_le_coe_iff.mpr hr), Ideal.log_coe,
    if_neg (not_le.mpr (tiny_pos.trans_le hr)), ← EReal.coe_mul]
  rfl

/-- A sum of reals read among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row times the upper triangle of ones, at column `b`: the sum of the row's first `b + 1` entries. -/
theorem sum_triangle {n : ℕ} (g : ℕ → ℝ) (t : Fin n → EReal) (b : Fin n) (ht : ∀ k : Fin n, t k = if k.val ≤ b.val then 1 else 0) :
    ∑ k : Fin n, ((g k.val : ℝ) : EReal) * t k = ((∑ k ∈ Finset.range (b.val + 1), g k : ℝ) : EReal) := by
  have h1 : ∀ k : Fin n, ((g k.val : ℝ) : EReal) * t k = (((if k.val ≤ b.val then g k.val else 0) : ℝ) : EReal) := by
    intro k
    rw [ht k]
    split <;> simp
  rw [Finset.sum_congr rfl (fun k _ => h1 k), coe_sum, Fin.sum_univ_eq_sum_range (fun k => if k ≤ b.val then g k else 0) n,
    ← Finset.sum_filter]
  congr 2
  ext k
  simp only [Finset.mem_filter, Finset.mem_range]
  have := b.isLt
  omega

/-- The second chunk of a block computes as the first does, over the carry the first one leaves. -/
theorem second_eq_first (v3 : Vec Ideal S256x256 .bf16) (v23 : FVec Ideal S2048x1 .f32) (v24 : Vec Ideal S2048x256 .f32) :
    k0_pay1 v23 (k0_pay11 v3 v24) (k0_pay12 v3 v24) = k0_pay6 v3 v23 v24 := rfl

/-- ONE CHUNK: where the row's entries are the reals `r 0, r 1, …`, none below the clamp, and the carry is the real `c`,
    the chunk's sum at column `b` is `c` plus the base-two logarithms of the row's first `b + 1` entries. -/
theorem chunk_sum (v3 : Vec Ideal S256x256 .bf16) (v5 : Vec Ideal S2048x1 .f32) (v6 : Vec Ideal S2048x256 .f32)
    (a : Fin 2048) (b : Fin 256) (r : ℕ → ℝ) (c : ℝ)
    (hT : ∀ k l : Fin 256, v3 (ix2 k l) = if k.val ≤ l.val then 1 else 0)
    (hr : ∀ k, k < 256 → tiny ≤ r k) (hx : ∀ k : Fin 256, v6 (ix2 a k) = ((r k.val : ℝ) : EReal))
    (hc : v5 (ix2 a 0) = ((c : ℝ) : EReal)) :
    k0_pay6 v3 v5 v6 (ix2 a b) = ((∑ k ∈ Finset.range (b.val + 1), lb (r k) + c : ℝ) : EReal) := by
  pointwise [k0_pay6, k0_pay5]
  have hl : ∀ k : Fin 256, Ideal.log (max (v6 (ix2 a k)) (Ideal.ofBits .f32 8388608#32)) * (Named.named (F := Ideal) κ "inv_ln2" (φ := .f32) 1069066811#32 : EReal)
      = ((lb (r k.val) : ℝ) : EReal) := fun k => by rw [hx k]; exact lg_coe (hr k.val k.isLt)
  simp only [hl]
  rw [sum_triangle (fun k => lb (r k)) (fun k => v3 (ix2 k b)) b (fun k => hT k b), hc]
  have h0 : ∀ k : Fin 256, (((lb (r k.val) : ℝ) : EReal) - ((lb (r k.val) : ℝ) : EReal)) * v3 (ix2 k b) = 0 := fun k => by
    rw [← EReal.coe_sub, sub_self, EReal.coe_zero, zero_mul]
  rw [Finset.sum_congr rfl (fun k _ => h0 k), Finset.sum_const_zero, add_zero, EReal.coe_add]

end Cert.Chunk
-- ==== Proof.Block.lean ====
/- What one grid point leaves in its output block and in the carry. -/
module

public import proofs.«01_k».proof.Proof.Chunk

@[expose] public section

set_option maxRecDepth 16384

noncomputable section

namespace Cert.Block

open Idealize.ShloMosaic Idealize.ShloMosaic.TcCoe Idealize.ShloMosaic.Tactic Idealize.SL.Sem
open Cert.KernelIdeal Cert.KernelIdeal.Gen Cert.Chunk

theorem hz : (![0, 0] : Fin 2 → Nat) = fun _ => 0 := funext fun a => by fin_cases a <;> rfl

/-- The block's first 256 columns. -/
abbrev lo : Rect S2048x512 := Rect.unit ![0, 0] ![2048, 256] inb_S2048x512_S2048x256_0_0
/-- The block's last 256 columns. -/
abbrev hi : Rect S2048x512 := Rect.unit ![0, 256] ![2048, 256] inb_S2048x512_S2048x256_0_256

/-- The output block a point writes, of its input block `x`, the triangle `t` and the carry `s`: one store per chunk. -/
def blockOut (x : Vec Ideal S2048x512 .f32) (t : Vec Ideal S256x256 .bf16) (s : Vec Ideal S2048x1 .f32) : Vec Ideal S2048x512 .f32 :=
  View.canon (Val := Elt Ideal) (s := S2048x512) (e := .f32) [⟨hi, k0_pay2 (k0_pay8 t s (View.ld x lo)) (k0_pay11 t (View.ld x hi)) (k0_pay12 t (View.ld x hi))⟩,
    ⟨lo, k0_pay7 t s (View.ld x lo)⟩]

/-- The carry a point leaves. -/
def blockCarry (x : Vec Ideal S2048x512 .f32) (t : Vec Ideal S256x256 .bf16) (s : Vec Ideal S2048x1 .f32) : Vec Ideal S2048x1 .f32 :=
  k0_pay3 (k0_pay8 t s (View.ld x lo)) (k0_pay11 t (View.ld x hi)) (k0_pay12 t (View.ld x hi))

section Cases

variable (c : Dev nD) (i : grid0.Coords) (a2 : Memref sig .tc .vmem S2048x512 .f32) (h2 : a2.IsWhole)
  (a3 : Memref sig .tc .vmem S256x256 .bf16) (h3 : a3.IsWhole) (a4 : Memref sig .tc .vmem S2048x512 .f32) (h4 : a4.IsWhole)
  (a5 : Memref sig .tc .vmem S2048x1 .f32) (h5 : a5.IsWhole)
  (x : Vec Ideal S2048x512 .f32) (t : Vec Ideal S256x256 .bf16) (s : Vec Ideal S2048x1 .f32)

/-- A point that goes on in a row writes the block of the carry it found. -/
theorem out_B (hc : ¬cond0_0 i) : out0_B_2 c i a2 h2 a3 h3 a4 h4 a5 h5 hc x t s = blockOut x t s := by
  unfold out0_B_2
  rw [View.read_writes_eq_canon _ _ _ (cover0_B_2 c i a2 h2 a3 h3 a4 h4 a5 h5 hc x t s)]
  unfold kernelRun0_B
  dsimp only
  sl_unfold_words
  simp only [View.readAt_eq_ld, h2.read_unread, h3.read_unread, h5.read_unread, View.ld_unit_zero (S := S256x256) hz,
    View.ld_unit_zero (S := S2048x1) hz]
  rfl

/-- It leaves the block's carry. -/
theorem sout_B (hc : ¬cond0_0 i) : sout0_B_0 c i a2 h2 a3 h3 a4 h4 a5 h5 hc x t s = blockCarry x t s := by
  unfold sout0_B_0
  rw [View.read_writes_eq_canon _ _ _ (scover0_B_0 c i a2 h2 a3 h3 a4 h4 a5 h5 hc x t s)]
  unfold kernelRun0_B
  dsimp only
  sl_unfold_words
  rw [View.canon_unit_zero hz]
  simp only [View.readAt_eq_ld, h2.read_unread, h3.read_unread, h5.read_unread, View.ld_unit_zero (S := S256x256) hz,
    View.ld_unit_zero (S := S2048x1) hz]
  rfl

/-- A point that starts a row writes the block of a zero carry. -/
theorem out_A (hc : cond0_0 i) : out0_A_2 c i a2 h2 a3 h3 a4 h4 a5 h5 hc x t = blockOut x t (k0_pay4 (F := Ideal)) := by
  unfold out0_A_2
  rw [View.read_writes_eq_canon _ _ _ (cover0_A_2 c i a2 h2 a3 h3 a4 h4 a5 h5 hc x t)]
  unfold kernelRun0_A
  dsimp only
  sl_unfold_words
  simp only [View.readAt_eq_ld, h2.read_unread, h3.read_unread, View.ld_unit_zero (S := S256x256) hz,
    View.readCov_unit_zero (S := S2048x1) _ hz]
  rfl

/-- It leaves the block's carry, likewise. -/
theorem sout_A (hc : cond0_0 i) : sout0_A_0 c i a2 h2 a3 h3 a4 h4 a5 h5 hc x t = blockCarry x t (k0_pay4 (F := Ideal)) := by
  unfold sout0_A_0
  rw [View.read_writes_eq_canon _ _ _ (scover0_A_0 c i a2 h2 a3 h3 a4 h4 a5 h5 hc x t)]
  unfold kernelRun0_A
  dsimp only
  sl_unfold_words
  rw [View.canon_cons_unit_zero (S := S2048x1) hz]
  simp only [View.readAt_eq_ld, h2.read_unread, h3.read_unread, View.ld_unit_zero (S := S256x256) hz,
    View.readCov_unit_zero (S := S2048x1) _ hz]
  rfl

end Cases

/-- The zero carry is zero. -/
theorem zero_carry (a : Fin 2048) : (k0_pay4 (F := Ideal)) (ix2 a 0) = ((0 : ℝ) : EReal) := by
  pointwise [k0_pay4]
  simp

/-! ## The block's values where the input block is real and the clamp leaves it alone -/

section Values

variable (x : Vec Ideal S2048x512 .f32) (t : Vec Ideal S256x256 .bf16) (s : Vec Ideal S2048x1 .f32)
  (r : ℕ → ℕ → ℝ) (c : ℕ → ℝ)

/-- The sum of the logarithms of the row's first `n` entries, onto the row's carry. -/
def part (r : ℕ → ℕ → ℝ) (c : ℕ → ℝ) (a n : ℕ) : ℝ := ∑ k ∈ Finset.range n, lb (r a k) + c a

/-- What the lemmas below ask of a point's operands. -/
structure Reads : Prop where
  tri : ∀ k l : Fin 256, t (ix2 k l) = if k.val ≤ l.val then 1 else 0
  big : ∀ a k, a < 2048 → k < 512 → tiny ≤ r a k
  entry : ∀ (a : Fin 2048) (k : Fin 512), x (ix2 a k) = ((r a.val k.val : ℝ) : EReal)
  carry : ∀ a : Fin 2048, s (ix2 a 0) = ((c a.val : ℝ) : EReal)

variable {x t s r c}

/-- The first chunk's sums. -/
theorem first_sum (h : Reads x t s r c) (a : Fin 2048) (b : Fin 256) :
    k0_pay6 t s (View.ld x lo) (ix2 a b) = ((part r c a.val (b.val + 1) : ℝ) : EReal) := by
  refine chunk_sum t s _ a b (fun k => r a.val k) (c a.val) h.tri (fun k hk => h.big _ _ a.isLt (by omega)) (fun k => ?_) (h.carry a)
  have hk := k.isLt
  have e := h.entry a ⟨k.val, by omega⟩
  pointwise
  exact e

/-- The carry between the two chunks. -/
theorem mid_carry (h : Reads x t s r c) (a : Fin 2048) :
    k0_pay8 t s (View.ld x lo) (ix2 a 0) = ((part r c a.val 256 : ℝ) : EReal) := by
  have e := first_sum h a 255
  pointwise [k0_pay8]
  exact e

/-- The second chunk's sums go on from the first's. -/
theorem second_sum (h : Reads x t s r c) (a : Fin 2048) (b : Fin 256) :
    k0_pay1 (k0_pay8 t s (View.ld x lo)) (k0_pay11 t (View.ld x hi)) (k0_pay12 t (View.ld x hi)) (ix2 a b)
      = ((part r c a.val (256 + (b.val + 1)) : ℝ) : EReal) := by
  rw [second_eq_first]
  refine (chunk_sum t _ _ a b (fun k => r a.val (256 + k)) (part r c a.val 256) h.tri
    (fun k hk => h.big _ _ a.isLt (by omega)) (fun k => ?_) (mid_carry h a)).trans ?_
  · have hk := k.isLt
    have e := h.entry a ⟨256 + k.val, by omega⟩
    pointwise
    exact e
  · unfold part
    rw [Finset.sum_range_add (fun k => lb (r a.val k)) 256 (b.val + 1)]
    ac_rfl

/-- THE CARRY a point leaves: the row's 512 logarithms onto the carry it found. -/
theorem blockCarry_apply (h : Reads x t s r c) (a : Fin 2048) :
    blockCarry x t s (ix2 a 0) = ((part r c a.val 512 : ℝ) : EReal) := by
  have e := second_sum h a 255
  unfold blockCarry
  pointwise [k0_pay3]
  exact e

/-- Two to the power of a chunk's sums, read at an index. -/
theorem exp2_of {v : FVec Ideal S2048x256 .f32} {q : ℝ} (y : S2048x256.Idx) (e' : v (ix2 (y 0) (y 1)) = ((q : ℝ) : EReal)) :
    exp2 v y = (((2 : ℝ) ^ q : ℝ) : EReal) := by
  rw [← eq_ix2 y] at e'
  show Ideal.exp2 (v y) = _
  rw [e']
  rfl

/-- THE BLOCK a point writes: two to the power of the running sums. -/
theorem blockOut_apply (h : Reads x t s r c) (a : Fin 2048) (b : Fin 512) :
    blockOut x t s (ix2 a b) = (((2 : ℝ) ^ (part r c a.val (b.val + 1)) : ℝ) : EReal) := by
  unfold blockOut
  refine View.canon_apply_of_pieces (Val := Elt Ideal) (S := S2048x512) (e := .f32)
    (fun y => (((2 : ℝ) ^ (part r c (y 0).val ((y 1).val + 1)) : ℝ) : EReal)) _ ?_ (ix2 a b) ?_
  · intro pc hpc y
    rcases List.mem_cons.mp hpc with rfl | hpc
    · have e := second_sum h (y 0) (y 1)
      have e0 : (hi.emb y 0).val = (y 0).val := by rw [Rect.emb_apply]; show 0 + 1 * (y 0).val = _; omega
      have e1 : (hi.emb y 1).val = 256 + (y 1).val := by rw [Rect.emb_apply]; show 256 + 1 * (y 1).val = _; omega
      show k0_pay2 (F := Ideal) _ _ _ y = (((2 : ℝ) ^ (part r c (hi.emb y 0).val ((hi.emb y 1).val + 1)) : ℝ) : EReal)
      rw [e0, e1, Nat.add_assoc]
      exact exp2_of y e
    rcases List.mem_cons.mp hpc with rfl | hpc
    · have e := first_sum h (y 0) (y 1)
      have e0 : (lo.emb y 0).val = (y 0).val := by rw [Rect.emb_apply]; show 0 + 1 * (y 0).val = _; omega
      have e1 : (lo.emb y 1).val = (y 1).val := by rw [Rect.emb_apply]; show 0 + 1 * (y 1).val = _; omega
      show k0_pay7 (F := Ideal) _ _ _ y = (((2 : ℝ) ^ (part r c (lo.emb y 0).val ((lo.emb y 1).val + 1)) : ℝ) : EReal)
      rw [e0, e1]
      exact exp2_of y e
    nomatch hpc
  · by_cases hb : b.val < 256
    · refine ⟨_, List.mem_cons_of_mem _ List.mem_cons_self, ?_⟩
      show ix2 a b ∈ lo.set
      rw [Rect.mem_set_unit]
      intro d
      match d with
      | ⟨0, _⟩ => show 0 ≤ a.val ∧ a.val < 0 + 2048; omega
      | ⟨1, _⟩ => show 0 ≤ b.val ∧ b.val < 0 + 256; omega
    · refine ⟨_, List.mem_cons_self, ?_⟩
      show ix2 a b ∈ hi.set
      rw [Rect.mem_set_unit]
      intro d
      match d with
      | ⟨0, _⟩ => show 0 ≤ a.val ∧ a.val < 0 + 2048; omega
      | ⟨1, _⟩ => show 256 ≤ b.val ∧ b.val < 256 + 256; omega

end Values

end Cert.Block
-- ==== Proof.Sweep.lean ====
/- What the output block and the carry hold after each grid point. -/
module

public import proofs.«01_k».proof.Proof.Block
public import Idealize.ShloMosaic.Lib.DynamicIndex
public meta import Idealize.ShloMosaic.Lib.StableHlo.ReadAt
public import Idealize.ShloMosaic.Lib.StableHlo.ReadAt

@[expose] public section

set_option maxRecDepth 16384

noncomputable section

namespace Cert.Sweep

open Idealize.ShloMosaic Idealize.ShloMosaic.TcCoe Idealize.ShloMosaic.Tactic Idealize.SL.Sem
open Cert.KernelIdeal Cert.KernelIdeal.Gen Cert.Chunk Cert.Block

variable (m : (ℓ : Loc nD τ sig) → Buf (Elt Ideal) ℓ)

/-- The windows' block numbers at a point. -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = 0 :=
  (by decide +kernel : ∀ t : Fin grid0.N, _)

/-- The input block at a point, read off the argument. -/
theorem iblk_entry (c : Dev nD) (t : Fin cfg0.N) (a : Fin 2048) (k : Fin 512) (p : Fin 16384) (q : Fin 4096)
    (hp : p.val = 2048 * (t.val / 8) + a.val) (hq : q.val = 512 * (t.val % 8) + k.val) :
    iblk m c 0 t (ix2 a k) = m ((c : Thread nD τ).loc main_arg0) (ix2 p q) := by
  obtain ⟨e0, e1, -, -⟩ := idx_facts t
  unfold iblk
  rw [View.read_apply]
  show V m c main_arg0 _ = m ((c : Thread nD τ).loc main_arg0) (ix2 p q)
  rw [V_main_arg0]
  congr 1
  funext d
  apply Fin.ext
  match d with
  | ⟨0, _⟩ => show win0_0.index t (0 : Fin 2) * 2048 + 1 * a.val = p.val; omega
  | ⟨1, _⟩ => show win0_0.index t (1 : Fin 2) * 512 + 1 * k.val = q.val; omega

/-- The triangle the host builds: one on and above the diagonal, zero below. -/
theorem host_triangle (c : Dev nD) (k l : Fin 256) :
    V m c main_v7 (ix2 k l) = (if k.val ≤ l.val then (1 : EReal) else 0) := by
  unfold V
  after_reads_at
  have hc : IntOp.cmpi CmpIPredicate.sle (BitVec.ofNat 32 k.val) (BitVec.ofNat 32 l.val)
      = BitVec.ofBool (decide (k.val ≤ l.val)) := by
    have hk : (BitVec.ofNat 32 k.val).toInt = k.val := toInt_ofNat_of_lt (by omega)
    have hl : (BitVec.ofNat 32 l.val).toInt = l.val := toInt_ofNat_of_lt (by omega)
    simp only [IntOp.cmpi, BitVec.sle, hk, hl, Nat.cast_le]
  rw [hc]
  by_cases h : k.val ≤ l.val
  · rw [if_pos h, decide_eq_true h]
    show (((BitVec.ofBool true).toNat : ℝ) : EReal) = 1
    simp
  · rw [if_neg h, decide_eq_false h]
    show (((BitVec.ofBool false).toNat : ℝ) : EReal) = 0
    simp

/-- The triangle's block is the whole array at every point. -/
theorem iblk_triangle (c : Dev nD) (t : Fin cfg0.N) (k l : Fin 256) :
    iblk m c 1 t (ix2 k l) = (if k.val ≤ l.val then (1 : EReal) else 0) := by
  obtain ⟨-, -, e0, e1⟩ := idx_facts t
  rw [← host_triangle m c k l]
  unfold iblk
  rw [View.read_apply]
  show V m c main_v7 _ = V m c main_v7 (ix2 k l)
  congr 1
  funext d
  apply Fin.ext
  match d with
  | ⟨0, _⟩ => show win0_1.index t (0 : Fin 2) * 256 + 1 * k.val = k.val; omega
  | ⟨1, _⟩ => show win0_1.index t (1 : Fin 2) * 256 + 1 * l.val = l.val; omega

/-- The argument holds reals, each at least the clamp: the entry of row `p` and column `q` is `f p q`. -/
structure Holds (c : Dev nD) (f : ℕ → ℕ → ℝ) : Prop where
  entry : ∀ (p : Fin 16384) (q : Fin 4096), m ((c : Thread nD τ).loc main_arg0) (ix2 p q) = ((f p.val q.val : ℝ) : EReal)
  big : ∀ p q, p < 16384 → q < 4096 → tiny ≤ f p q

/-- The sum of the logarithms of the first `n` entries of row `p`. -/
def logs (f : ℕ → ℕ → ℝ) (p n : ℕ) : ℝ := ∑ l ∈ Finset.range n, lb (f p l)

variable {m}

/-- The operands of the point `t`, whose carry holds the logarithms of the columns before the point's. -/
theorem reads {c : Dev nD} {f : ℕ → ℕ → ℝ} (h : Holds m c f) (t : Fin cfg0.N) (s : Vec Ideal S2048x1 .f32)
    (hs : ∀ a : Fin 2048, s (ix2 a 0) = ((logs f (2048 * (t.val / 8) + a.val) (512 * (t.val % 8)) : ℝ) : EReal)) :
    Reads (iblk m c 0 t) (iblk m c 1 t) s (fun a k => f (2048 * (t.val / 8) + a) (512 * (t.val % 8) + k))
      (fun a => logs f (2048 * (t.val / 8) + a) (512 * (t.val % 8))) where
  tri := iblk_triangle m c t
  big := fun a k ha hk => h.big _ _ (by have := t.isLt; have : cfg0.N = 64 := N_0; omega) (by omega)
  entry := fun a k => by
    have ht := t.isLt
    have hN : cfg0.N = 64 := N_0
    have ha := a.isLt
    have hk := k.isLt
    rw [iblk_entry m c t a k ⟨2048 * (t.val / 8) + a.val, by omega⟩ ⟨512 * (t.val % 8) + k.val, by omega⟩ rfl rfl, h.entry]
  carry := hs

/-- A point's sum over the carry it found is the row's sum from its first column. -/
theorem part_logs (f : ℕ → ℕ → ℝ) (p b a n : ℕ) :
    part (fun a k => f (p + a) (b + k)) (fun a => logs f (p + a) b) a n = logs f (p + a) (b + n) := by
  unfold part logs
  rw [Finset.sum_range_add, add_comm]

/-- What a point leaves: in the output block the row's products up to each column, in the carry the row's logarithms. -/
structure Leaves (c : Dev nD) (f : ℕ → ℕ → ℝ) (n : ℕ) (o : Vec Ideal S2048x512 .f32 × Vec Ideal S2048x1 .f32) : Prop where
  out : ∀ (a : Fin 2048) (b : Fin 512),
    o.1 (ix2 a b) = (((2 : ℝ) ^ logs f (2048 * (n / 8) + a.val) (512 * (n % 8) + (b.val + 1)) : ℝ) : EReal)
  carry : ∀ a : Fin 2048, o.2 (ix2 a 0) = ((logs f (2048 * (n / 8) + a.val) (512 * (n % 8) + 512) : ℝ) : EReal)

theorem leaves_of_carry {c : Dev nD} {f : ℕ → ℕ → ℝ} (h : Holds m c f) (t : Fin cfg0.N) (s : Vec Ideal S2048x1 .f32)
    (hs : ∀ a : Fin 2048, s (ix2 a 0) = ((logs f (2048 * (t.val / 8) + a.val) (512 * (t.val % 8)) : ℝ) : EReal)) :
    Leaves c f t.val (blockOut (iblk m c 0 t) (iblk m c 1 t) s, blockCarry (iblk m c 0 t) (iblk m c 1 t) s) where
  out := fun a b => by
    have key := blockOut_apply (reads h t s hs) a b
    rw [part_logs f (2048 * (t.val / 8)) (512 * (t.val % 8)) a.val (b.val + 1)] at key
    dsimp only
    exact key
  carry := fun a => by
    have key := blockCarry_apply (reads h t s hs) a
    rw [part_logs f (2048 * (t.val / 8)) (512 * (t.val % 8)) a.val 512] at key
    dsimp only
    exact key

/-- Every point of the grid leaves that, by induction: a row's first point starts from zero, the others from the point before. -/
theorem leaves {c : Dev nD} {f : ℕ → ℕ → ℝ} (h : Holds m c f) (n : ℕ) (hn : n < cfg0.N) :
    Leaves c f n (outsAt0 m c n hn) := by
  induction n with
  | zero =>
    rw [outsAt0_A m c ⟨0, hn⟩ rfl, out_A, sout_A]
    refine leaves_of_carry h ⟨0, hn⟩ _ fun a => ?_
    rw [zero_carry]
    simp [logs]
  | succ n ih =>
    by_cases h0 : (n + 1) % 8 = 0
    · rw [outsAt0_A m c ⟨n + 1, hn⟩ h0, out_A, sout_A]
      refine leaves_of_carry h ⟨n + 1, hn⟩ _ fun a => ?_
      rw [zero_carry]
      simp [logs, h0]
    · rw [outsAt0_B m c ⟨n + 1, hn⟩ h0, out_B, sout_B]
      refine leaves_of_carry h ⟨n + 1, hn⟩ _ fun a => ?_
      refine ((ih (Nat.lt_of_succ_lt hn)).carry a).trans ?_
      have e1 : (n + 1) / 8 = n / 8 := by omega
      have e2 : 512 * ((n + 1) % 8) = 512 * (n % 8) + 512 := by omega
      simp only [e1, e2]

end Cert.Sweep
-- ==== Proof.KernelValue.lean ====
/- The kernel's result array: the running product of each row. -/
module

public import proofs.«01_k».proof.Proof.Sweep
public import proofs.«01_k».proof.Proof.Gen.KernelIdeal.Value

@[expose] public section

set_option maxRecDepth 16384

noncomputable section

namespace Cert.KernelValue

open Idealize.ShloMosaic Idealize.ShloMosaic.TcCoe Idealize.ShloMosaic.Tactic Idealize.SL.Sem
open Cert.KernelIdeal Cert.KernelIdeal.Gen Cert.KernelIdeal.Value Cert.Chunk Cert.Block Cert.Sweep

/-- Two to the sum of base-two logarithms is the product. -/
theorem two_pow_logs (f : ℕ → ℕ → ℝ) (p n : ℕ) (h : ∀ l, l < n → 0 < f p l) :
    (2 : ℝ) ^ logs f p n = ∏ l ∈ Finset.range n, f p l := by
  have h2 : Real.log 2 ≠ 0 := (Real.log_pos (by norm_num)).ne'
  rw [Real.rpow_def_of_pos (by norm_num), logs, Finset.mul_sum, Real.exp_sum]
  refine Finset.prod_congr rfl fun l hl => ?_
  rw [lb, mul_comm (Real.log (f p l)), mul_inv_cancel_left₀ h2, Real.exp_log (h l (Finset.mem_range.1 hl))]

variable {m : (ℓ : Loc nD τ sig) → Buf (Elt Ideal) ℓ}

/-- The kernel's result at row `p` and column `q` is the product of the row's entries up to that column. -/
theorem result_apply {c : Dev nD} {f : ℕ → ℕ → ℝ} (h : Holds m c f) (p : Fin 16384) (q : Fin 4096) :
    G2 m c (ix2 p q) = ((∏ l ∈ Finset.range (q.val + 1), f p.val l : ℝ) : EReal) := by
  have hp := p.isLt
  have hq := q.isLt
  have hN : cfg0.N = 64 := N_0
  have hpt : pt2Of (ix2 p q) = 8 * (p.val / 2048) + q.val / 512 := by
    show 8 * (p.val / 2048 - 0) + 1 * (q.val / 512 - 0) = _
    omega
  have hlt : pt2Of (ix2 p q) < cfg0.N := by omega
  unfold G2
  rw [dif_pos hlt, ← outsAt0_sweep m c _ hlt]
  have hl : loc2Of (ix2 p q) = ix2 ⟨p.val % 2048, Nat.mod_lt _ (by norm_num)⟩ ⟨q.val % 512, Nat.mod_lt _ (by norm_num)⟩ := by
    funext d
    fin_cases d <;> rfl
  rw [hl, (leaves h _ hlt).out]
  have e1 : 2048 * (pt2Of (ix2 p q) / 8) + p.val % 2048 = p.val := by omega
  have e2 : 512 * (pt2Of (ix2 p q) % 8) + (q.val % 512 + 1) = q.val + 1 := by omega
  simp only [e1, e2]
  rw [two_pow_logs f p.val _ fun l hl => tiny_pos.trans_le (h.big _ _ hp (by omega))]

end Cert.KernelValue
-- ==== Proof.RefValue.lean ====
/- What the reference's loop holds after each step, and its result array. -/
module

public import proofs.«01_k».proof.Proof.Gen.ReferenceIdeal.Run
public import Idealize.ShloMosaic.PureOps.Ideal
public import Idealize.ShloMosaic.Lib.DynamicIndex
public import Idealize.ShloMosaic.Lib.ValueIdx
public import Idealize.ShloMosaic.Lib.Pointwise
public meta import Idealize.ShloMosaic.Lib.StableHlo.ReadAt
public import Idealize.ShloMosaic.Lib.StableHlo.ReadAt

@[expose] public section

set_option maxRecDepth 65536

noncomputable section

namespace Cert.RefValue

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value

/-- The product of the first `n` entries of row `p` (columns past the last count as one). -/
def rowProd (x : Vec Ideal S16384x4096 .f32) (p : Fin 16384) (n : ℕ) : EReal :=
  ∏ l ∈ Finset.range n, (if h : l < 4096 then x (ix2 p ⟨l, h⟩) else 1)

theorem rowProd_succ (x : Vec Ideal S16384x4096 .f32) (p : Fin 16384) (k : Fin 4096) :
    rowProd x p (k.val + 1) = rowProd x p k.val * x (ix2 p k) := by
  unfold rowProd
  rw [Finset.prod_range_succ, dif_pos k.isLt]

/-- The loop's buffers after `k` steps: the counter, the transposed argument, the product so far, and the rows written. -/
structure After (x : Vec Ideal S16384x4096 .f32) (k : ℕ) (V : Valuation τ sig (Elt Ideal)) : Prop where
  counter : V (Proc.devRef .tc main_v3_1) = fun _ => BitVec.ofNat 32 k
  arg : ∀ (q : Fin 4096) (p : Fin 16384), (V (Proc.devRef .tc main_v3_0) : Vec Ideal S4096x16384 .f32) (ix2 q p) = x (ix2 p q)
  prod : ∀ p : Fin 16384, (V (Proc.devRef .tc main_v3_2) : Vec Ideal S16384 .f32) (ix1 p) = rowProd x p k
  rows : ∀ (q : Fin 4096) (p : Fin 16384), q.val < k →
    (V (Proc.devRef .tc main_v3_3) : Vec Ideal S4096x16384 .f32) (ix2 q p) = rowProd x p (q.val + 1)

/-- The bits of the starting product read as one. -/
theorem one_bits : Ideal.ofBits .f32 1065353216#32 = (1 : EReal) := by
  simp [Ideal.ofBits, Ideal.ieee, -EReal.coe_mul]; norm_num

/-- The loop starts so, with no step done. -/
theorem entry (m : (ℓ : Loc nD τ sig) → Buf (Elt Ideal) ℓ) (c : Dev nD) :
    After (m ((c : Thread nD τ).loc main_arg0)) 0 (entryContents preI m c) where
  counter := ctr_entry m c
  arg := fun q p => by
    simp only [entryContents, afterL_cons, afterL_nil]
    after_reads_simp
    exact transpose_apply _ _ _ (ix2 q p) (ix2 p q) (fun b => by fin_cases b <;> rfl)
  prod := fun p => by
    simp only [entryContents, afterL_cons, afterL_nil]
    after_reads_simp
    simp only [rowProd, Finset.range_zero, Finset.prod_empty]
    exact one_bits
  rows := fun q p h => absurd h (Nat.not_lt_zero _)

section Rows

variable (start : Fin 2 → Int) (k : Fin 4096) (h0 : start 0 = k.val) (h1 : start 1 = 0)

include h0 h1

/-- A row's start is inside the array, so that it is not moved. -/
theorem clamp (h : S1x16384.rank = S4096x16384.rank) :
    Host.clampedStart S4096x16384 S1x16384 h start 0 = k.val ∧ Host.clampedStart S4096x16384 S1x16384 h start 1 = 0 := by
  have hk := k.isLt
  refine ⟨Host.clampedStart_of_le h start 0 k.val h0 ?_, Host.clampedStart_of_le h start 1 0 h1 ?_⟩
  · show k.val + 1 ≤ 4096
    omega
  · show 0 + 16384 ≤ 16384
    omega

/-- The slice of one row, at an index. -/
theorem slice_row (y : Vec Ideal S4096x16384 .f32) (hs : S4096x16384.Slices (fun _ => 0) S1x16384) (p : Fin 16384) :
    Host.dynamicSlice S1x16384 y start hs (ix2 0 p) = y (ix2 k p) := by
  obtain ⟨c0, c1⟩ := clamp start k h0 h1 hs.1
  rw [Host.dynamicSlice_apply]
  congr 1
  funext d
  apply Fin.ext
  match d with
  | ⟨0, _⟩ => show Host.clampedStart S4096x16384 S1x16384 hs.1 start 0 + 0 = k.val; omega
  | ⟨1, _⟩ => show Host.clampedStart S4096x16384 S1x16384 hs.1 start 1 + p.val = p.val; omega

/-- The array with the row written: the new row there. -/
theorem update_row (y : Vec Ideal S4096x16384 .f32) (u : Vec Ideal S1x16384 .f32)
    (hs : S4096x16384.Slices (fun _ => 0) S1x16384) (p : Fin 16384) :
    Host.dynamicUpdateSlice y u start hs (ix2 k p) = u (ix2 0 p) := by
  obtain ⟨c0, c1⟩ := clamp start k h0 h1 hs.1
  rw [Host.dynamicUpdateSlice_apply, dif_pos ?_]
  · congr 1
    funext d
    apply Fin.ext
    match d with
    | ⟨0, _⟩ => show k.val - Host.clampedStart S4096x16384 S1x16384 hs.1 start 0 = 0; omega
    | ⟨1, _⟩ => show p.val - Host.clampedStart S4096x16384 S1x16384 hs.1 start 1 = p.val; omega
  · intro d
    have hp := p.isLt
    match d with
    | ⟨0, _⟩ =>
      show Host.clampedStart S4096x16384 S1x16384 hs.1 start 0 ≤ k.val
        ∧ k.val < Host.clampedStart S4096x16384 S1x16384 hs.1 start 0 + 1
      omega
    | ⟨1, _⟩ =>
      show Host.clampedStart S4096x16384 S1x16384 hs.1 start 1 ≤ p.val
        ∧ p.val < Host.clampedStart S4096x16384 S1x16384 hs.1 start 1 + 16384
      omega

/-- The array with the row written: the old rows elsewhere. -/
theorem update_row_other (y : Vec Ideal S4096x16384 .f32) (u : Vec Ideal S1x16384 .f32)
    (hs : S4096x16384.Slices (fun _ => 0) S1x16384) (q : Fin 4096) (p : Fin 16384) (hq : q.val < k.val) :
    Host.dynamicUpdateSlice y u start hs (ix2 q p) = y (ix2 q p) := by
  obtain ⟨c0, c1⟩ := clamp start k h0 h1 hs.1
  rw [Host.dynamicUpdateSlice_apply, dif_neg ?_]
  intro hin
  have e : Host.clampedStart S4096x16384 S1x16384 hs.1 start 0 ≤ q.val := (hin 0).1
  omega

end Rows

/-- The start of a step's row, as an integer. -/
theorem start_row {x : Vec Ideal S16384x4096 .f32} {V : Valuation τ sig (Elt Ideal)} (k : Fin 4096) (h : After x k.val V)
    (i : S_.Idx) : ((V (Proc.devRef .tc main_v3_1) : IVec S_ 32) i).toInt = k.val := by
  rw [h.counter]
  exact toInt_ofNat_of_lt (by have := k.isLt; omega)

/-- The step's operand: row `k` of the transposed argument. -/
theorem slice_apply {x : Vec Ideal S16384x4096 .f32} {V : Valuation τ sig (Elt Ideal)} (k : Fin 4096) (h : After x k.val V)
    (p : Fin 16384) : res_main_while0b_v5 V (ix1 p) = x (ix2 p k) := by
  unfold res_main_while0b_v5
  rw [shapeCast_apply _ _ (ix1 p) (ix2 0 p) (by rw [rowMajor_val1, rowMajor_val2 _ 16384 rfl]; show 0 * 16384 + p.val = p.val; omega)]
  exact (slice_row _ k (start_row k h _) rfl _ _ p).trans (h.arg k p)

/-- A step keeps it so. -/
theorem step {x : Vec Ideal S16384x4096 .f32} {V : Valuation τ sig (Elt Ideal)} (k : Fin 4096) (h : After x k.val V) :
    After x (k.val + 1) (STEP V) where
  counter := by
    rw [STEP_main_v3_1]
    unfold step_main_v3_1
    rw [h.counter]
    funext i
    show BitVec.ofNat 32 k.val + 1#32 = BitVec.ofNat 32 (k.val + 1)
    simp only [BitVec.ofNat_add]
  arg := by
    rw [STEP_main_v3_0]
    exact h.arg
  prod := fun p => by
    rw [STEP_main_v3_2, rowProd_succ, ← h.prod p, ← slice_apply k h p]
    rfl
  rows := fun q p hq => by
    rw [STEP_main_v3_3]
    unfold step_main_v3_3
    by_cases e : q.val = k.val
    · obtain rfl : q = k := Fin.ext e
      refine (update_row _ q (start_row q h _) rfl _ _ _ p).trans ?_
      rw [broadcastInDim_apply _ _ _ (ix2 0 p) (ix1 p) (fun a => by fin_cases a; rfl), rowProd_succ, ← h.prod p, ← slice_apply q h p]
      rfl
    · exact (update_row_other _ k (start_row k h _) rfl _ _ _ q p (by omega)).trans (h.rows q p (by omega))

/-- So after `k` steps, up to the last. -/
theorem after_steps (m : (ℓ : Loc nD τ sig) → Buf (Elt Ideal) ℓ) (c : Dev nD) (k : ℕ) (hk : k ≤ 4096) :
    After (m ((c : Thread nD τ).loc main_arg0)) k (STEP^[k] (entryContents preI m c)) := by
  induction k with
  | zero => exact entry m c
  | succ k ih =>
    rw [Function.iterate_succ_apply']
    exact step ⟨k, hk⟩ (ih (by omega))

/-- The reference's result at row `p` and column `q`: the product of the row's entries up to that column. -/
theorem result_apply (m : (ℓ : Loc nD τ sig) → Buf (Elt Ideal) ℓ) (c : Dev nD) (p : Fin 16384) (q : Fin 4096) :
    (out_main_v4 (STEP^[4096] (entryContents preI m c)) : Vec Ideal S16384x4096 .f32) (ix2 p q)
      = rowProd (m ((c : Thread nD τ).loc main_arg0)) p (q.val + 1) := by
  rw [← (after_steps m c 4096 le_rfl).rows q p q.isLt]
  generalize STEP^[4096] (entryContents preI m c) = W
  unfold out_main_v4
  exact transpose_apply _ _ _ (ix2 p q) (ix2 q p) (fun b => by fin_cases b <;> rfl)

end Cert.RefValue
-- ==== Proof.Equation.lean ====
/- The kernel's result array is the reference's, where the argument's entries are normal and finite. -/
module

public import proofs.«01_k».proof.Defs
public import proofs.«01_k».proof.Proof.KernelValue
public import proofs.«01_k».proof.Proof.RefValue

@[expose] public section

set_option maxRecDepth 16384

noncomputable section

namespace Cert.Equation

open Idealize.ShloMosaic Idealize.ShloMosaic.TcCoe Idealize.ShloMosaic.Tactic Idealize.SL.Sem
open Cert.Chunk Cert.Sweep Cert.RefValue

/-- The precondition's one side condition: a scalar spreads over the array. -/
theorem preFacts : Cert.Pre_positive.Facts where
  bcast_S_S16384x4096 := by decide

/-- The bits of the precondition's upper bound read as infinity. -/
theorem ofBits_top : Ideal.ofBits .f32 2139095040#32 = (⊤ : EReal) := by
  simp [Ideal.ofBits, Ideal.ieee]

/-- An array's entries as reals, over all pairs of numbers. -/
def entries (x : Vec Ideal ⟨2, ![16384, 4096]⟩ .f32) (p q : ℕ) : ℝ :=
  if h : p < 16384 ∧ q < 4096 then (x (ix2 ⟨p, h.1⟩ ⟨q, h.2⟩)).toReal else 1

/-- An entry that the precondition admits is at least the clamp, and below infinity. -/
theorem bounds [Cert.Pre_positive.Facts] (x : Vec Ideal ⟨2, ![16384, 4096]⟩ .f32)
    (h : Cert.Pre_positive.fn (F := Ideal) x = fun _ => 1#1) (p : Fin 16384) (q : Fin 4096) :
    (tiny : EReal) ≤ x (ix2 p q) ∧ x (ix2 p q) < ⊤ := by
  have e := congrFun h (ix2 p q)
  pointwise [Cert.Pre_positive.fn] at e
  rw [ofBits_tiny, ofBits_top] at e
  by_cases h1 : (tiny : EReal) ≤ x (ix2 p q) <;> by_cases h2 : x (ix2 p q) < ⊤
  · exact ⟨h1, h2⟩
  all_goals
    simp only [h1, h2, decide_true, decide_false] at e
    exact absurd e (by decide)

variable {m : (ℓ : Loc Cert.KernelIdeal.nD Cert.KernelIdeal.τ Cert.KernelIdeal.sig) → Buf (Elt Ideal) ℓ}

/-- So the argument holds reals, each at least the clamp. -/
theorem holds [Cert.Pre_positive.Facts] (c : Dev Cert.KernelIdeal.nD)
    (h : Cert.Pre_positive.fn (F := Ideal) (m (c.tc.loc Cert.KernelIdeal.main_arg0)) = fun _ => 1#1) :
    Holds m c (entries (m (c.tc.loc Cert.KernelIdeal.main_arg0))) where
  entry := fun p q => by
    obtain ⟨hl, hu⟩ := bounds _ h p q
    unfold entries
    rw [dif_pos ⟨p.isLt, q.isLt⟩]
    exact (EReal.coe_toReal hu.ne (ne_bot_of_le_ne_bot (EReal.coe_ne_bot _) hl)).symm
  big := fun p q hp hq => by
    obtain ⟨hl, hu⟩ := bounds _ h ⟨p, hp⟩ ⟨q, hq⟩
    unfold entries
    rw [dif_pos ⟨hp, hq⟩, ← EReal.coe_le_coe_iff, EReal.coe_toReal hu.ne (ne_bot_of_le_ne_bot (EReal.coe_ne_bot _) hl)]
    exact hl

/-- A product of reals read among the extended reals. -/
theorem coe_prod (s : Finset ℕ) (f : ℕ → ℝ) : ((∏ k ∈ s, f k : ℝ) : EReal) = ∏ k ∈ s, ((f k : ℝ) : EReal) := by
  classical
  induction s using Finset.induction_on with
  | empty => simp
  | insert a s ha ih => rw [Finset.prod_insert ha, Finset.prod_insert ha, EReal.coe_mul, ih]

/-- The product of a row of reals is the row's product among the extended reals. -/
theorem rowProd_coe {c : Dev Cert.KernelIdeal.nD} {f : ℕ → ℕ → ℝ} (h : Holds m c f) (p : Fin 16384) (q : Fin 4096) :
    rowProd (m (c.tc.loc Cert.KernelIdeal.main_arg0)) p (q.val + 1)
      = ((∏ l ∈ Finset.range (q.val + 1), f p.val l : ℝ) : EReal) := by
  rw [coe_prod, rowProd]
  refine Finset.prod_congr rfl fun l hl => ?_
  have hl' : l < 4096 := by
    have := Finset.mem_range.1 hl
    have := q.isLt
    omega
  rw [dif_pos hl']
  exact h.entry p ⟨l, hl'⟩

/-- The equation: where the kernel's argument is the reference's and the precondition holds, the results are one array. -/
theorem results_eq [Cert.Pre_positive.Facts] (c : Dev Cert.KernelIdeal.nD)
    (m' : (ℓ : Loc Cert.ReferenceIdeal.nD Cert.ReferenceIdeal.τ Cert.ReferenceIdeal.sig) → Buf (Elt Ideal) ℓ)
    (h : Cert.Pre_positive.fn (F := Ideal) (m (c.tc.loc Cert.KernelIdeal.main_arg0)) = fun _ => 1#1)
    (hx : m' (c.tc.loc Cert.ReferenceIdeal.main_arg0) = m (c.tc.loc Cert.KernelIdeal.main_arg0)) :
    (Cert.ReferenceIdeal.Value.out_main_v4 (Cert.ReferenceIdeal.Value.STEP^[4096]
        (StableHlo.entryContents Cert.ReferenceIdeal.Value.preI m' c)) : Vec Ideal ⟨2, ![16384, 4096]⟩ .f32)
      = Cert.KernelIdeal.Value.G2 m c := by
  have hh := holds c h
  funext i
  rw [eq_ix2 i]
  refine (RefValue.result_apply m' c (i 0) (i 1)).trans ?_
  rw [hx]
  exact (rowProd_coe hh (i 0) (i 1)).trans (KernelValue.result_apply hh (i 0) (i 1)).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_positive.Facts := Cert.Equation.preFacts

/-- The printed kernel runs, leaves its argument alone and ends with its semaphores at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the printed one with the reciprocal of the logarithm of two read at its name. -/
theorem preserved : Cert.preserves_Kernel_KernelIdeal :=
  IdealRules.named_const.statement Cert.KernelIdeal.κ "inv_ln2" .f32 0x3FB8AA3B#32 (((Real.log 2)⁻¹ : ℝ) : EReal) rfl

/-- Where the entries are normal and finite, the two results are one array. -/
theorem equal : Cert.algebraic_KernelIdeal_ReferenceIdeal_pre_positive := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Equation.results_eq c m' (hpre c) (hagree c)

theorem claim : Cert.Claim := ⟨Cert.Kernel.Gen.facts, Cert.KernelIdeal.Gen.facts, Cert.ReferenceIdeal.Gen.facts,
  Cert.Equation.preFacts, frame_kernel, frame_ideal, fun m ρ _ => frame_ideal m ρ trivial, frame_reference,
  fun m ρ _ => frame_reference m ρ trivial, preserved, equal⟩

end Cert.Proof

end
